-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x5x26x26x85 : Shape := ⟨5, ![64, 5, 26, 26, 85]⟩
abbrev S64x0x6 : Shape := ⟨3, ![64, 0, 6]⟩
abbrev S8320x26x85 : Shape := ⟨3, ![8320, 26, 85]⟩
abbrev S1x1 : Shape := ⟨2, ![1, 1]⟩
abbrev S130x26x85 : Shape := ⟨3, ![130, 26, 85]⟩
abbrev S130x26x1 : Shape := ⟨3, ![130, 26, 1]⟩
abbrev S130x26 : Shape := ⟨2, ![130, 26]⟩
abbrev S1x130x26 : Shape := ⟨3, ![1, 130, 26]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 4
  | .smem => 2
  | _ => 0

abbrev bufTy : (tb : Table) → Fin (tcTables nBuf tb) → BufTy
  | .hbm, ⟨0, _⟩ => ⟨S64x5x26x26x85, .f32⟩
  | .hbm, ⟨1, _⟩ => ⟨S64x0x6, .f32⟩
  | .hbm, ⟨2, _⟩ => ⟨S8320x26x85, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S130x26x85, .f32⟩
  | .local _ .vmem, ⟨1, _⟩ => ⟨S130x26x85, .f32⟩
  | .local _ .vmem, ⟨2, _⟩ => ⟨S130x26x85, .f32⟩
  | .local _ .vmem, ⟨3, _⟩ => ⟨S130x26x85, .f32⟩
  | .local _ .smem, ⟨0, _⟩ => ⟨S1x1, .f32⟩
  | .local _ .smem, ⟨1, _⟩ => ⟨S1x1, .f32⟩
  | _, _ => ⟨S64x5x26x26x85, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v35 : BitVec 1 := Scalar.cmpi .eq arg0 c31_i32
  let v36 : BitVec 32 := Scalar.extui v35
  let c0_i32_16 : BitVec 32 := 0#32
  let v37 : BitVec 1 := Scalar.cmpi .ne v36 c0_i32_16
  v37

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S130x26x85 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S130x26x85 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S64x5x26x26x85 : Shape := ⟨5, ![64, 5, 26, 26, 85]⟩
abbrev S64x0x6 : Shape := ⟨3, ![64, 0, 6]⟩
abbrev S5x2 : Shape := ⟨2, ![5, 2]⟩
abbrev S64x5x26x26x1 : Shape := ⟨5, ![64, 5, 26, 26, 1]⟩
abbrev S64x5x26x26 : Shape := ⟨4, ![64, 5, 26, 26]⟩
abbrev S_ : Shape := ⟨0, ![]⟩
abbrev S64x5x26x26x80 : Shape := ⟨5, ![64, 5, 26, 26, 80]⟩
abbrev S26 : Shape := ⟨1, ![26]⟩
abbrev S1x1x1x26 : Shape := ⟨4, ![1, 1, 1, 26]⟩
abbrev S1x1x26x1 : Shape := ⟨4, ![1, 1, 26, 1]⟩
abbrev S5x1 : Shape := ⟨2, ![5, 1]⟩
abbrev S5 : Shape := ⟨1, ![5]⟩
abbrev S1x5x1x1 : Shape := ⟨4, ![1, 5, 1, 1]⟩
abbrev S64x5x26x26x4 : Shape := ⟨5, ![64, 5, 26, 26, 4]⟩
abbrev S64x5x26x26x2 : Shape := ⟨5, ![64, 5, 26, 26, 2]⟩

abbrev nBuf : Space → Nat
  | .hbm => 244
  | .vmem => 0
  | .smem => 0
  | _ => 0

abbrev hbmTy0_0 (i : Nat) : BufTy := match i % 128 with
  | 0 => ⟨S64x5x26x26x85, .f32⟩
  | 1 => ⟨S64x0x6, .f32⟩
  | 2 => ⟨S5x2, .f32⟩
  | 3 => ⟨S64x5x26x26x1, .f32⟩
  | 4 => ⟨S64x5x26x26, .f32⟩
  | 5 => ⟨S64x5x26x26, .f32⟩
  | 6 => ⟨S64x5x26x26, .f32⟩
  | 7 => ⟨S_, .f32⟩
  | 8 => ⟨S64x5x26x26, .f32⟩
  | 9 => ⟨S64x5x26x26, .f32⟩
  | 10 => ⟨S_, .f32⟩
  | 11 => ⟨S64x5x26x26, .f32⟩
  | 12 => ⟨S64x5x26x26, .f32⟩
  | 13 => ⟨S64x5x26x26x1, .f32⟩
  | 14 => ⟨S64x5x26x26, .f32⟩
  | 15 => ⟨S64x5x26x26, .f32⟩
  | 16 => ⟨S64x5x26x26, .f32⟩
  | 17 => ⟨S_, .f32⟩
  | 18 => ⟨S64x5x26x26, .f32⟩
  | 19 => ⟨S64x5x26x26, .f32⟩
  | 20 => ⟨S_, .f32⟩
  | 21 => ⟨S64x5x26x26, .f32⟩
  | 22 => ⟨S64x5x26x26, .f32⟩
  | 23 => ⟨S64x5x26x26x1, .f32⟩
  | 24 => ⟨S64x5x26x26, .f32⟩
  | 25 => ⟨S64x5x26x26x1, .f32⟩
  | 26 => ⟨S64x5x26x26, .f32⟩
  | 27 => ⟨S64x5x26x26x1, .f32⟩
  | 28 => ⟨S64x5x26x26, .f32⟩
  | 29 => ⟨S64x5x26x26, .f32⟩
  | 30 => ⟨S64x5x26x26, .f32⟩
  | 31 => ⟨S_, .f32⟩
  | 32 => ⟨S64x5x26x26, .f32⟩
  | 33 => ⟨S64x5x26x26, .f32⟩
  | 34 => ⟨S_, .f32⟩
  | 35 => ⟨S64x5x26x26, .f32⟩
  | 36 => ⟨S64x5x26x26, .f32⟩
  | 37 => ⟨S64x5x26x26x80, .f32⟩
  | 38 => ⟨S64x5x26x26x80, .f32⟩
  | 39 => ⟨S64x5x26x26x80, .f32⟩
  | 40 => ⟨S_, .f32⟩
  | 41 => ⟨S64x5x26x26x80, .f32⟩
  | 42 => ⟨S64x5x26x26x80, .f32⟩
  | 43 => ⟨S_, .f32⟩
  | 44 => ⟨S64x5x26x26x80, .f32⟩
  | 45 => ⟨S64x5x26x26x80, .f32⟩
  | 46 => ⟨S_, .i1⟩
  | 47 => ⟨S64x5x26x26, .i1⟩
  | 48 => ⟨S_, .i1⟩
  | 49 => ⟨S64x5x26x26, .i1⟩
  | 50 => ⟨S_, .f32⟩
  | 51 => ⟨S64x5x26x26, .f32⟩
  | 52 => ⟨S_, .f32⟩
  | 53 => ⟨S64x5x26x26, .f32⟩
  | 54 => ⟨S_, .f32⟩
  | 55 => ⟨S64x5x26x26, .f32⟩
  | 56 => ⟨S_, .f32⟩
  | 57 => ⟨S64x5x26x26, .f32⟩
  | 58 => ⟨S_, .f32⟩
  | 59 => ⟨S64x5x26x26x80, .f32⟩
  | 60 => ⟨S26, .f32⟩
  | 61 => ⟨S1x1x1x26, .f32⟩
  | 62 => ⟨S26, .f32⟩
  | 63 => ⟨S1x1x26x1, .f32⟩
  | 64 => ⟨S5x1, .f32⟩
  | 65 => ⟨S5, .f32⟩
  | 66 => ⟨S1x5x1x1, .f32⟩
  | 67 => ⟨S5x1, .f32⟩
  | 68 => ⟨S5, .f32⟩
  | 69 => ⟨S1x5x1x1, .f32⟩
  | 70 => ⟨S64x5x26x26, .f32⟩
  | 71 => ⟨S64x5x26x26, .f32⟩
  | 72 => ⟨S64x5x26x26, .f32⟩
  | 73 => ⟨S64x5x26x26, .f32⟩
  | 74 => ⟨S64x5x26x26, .f32⟩
  | 75 => ⟨S64x5x26x26, .f32⟩
  | 76 => ⟨S64x5x26x26, .f32⟩
  | 77 => ⟨S64x5x26x26, .f32⟩
  | 78 => ⟨S64x5x26x26, .f32⟩
  | 79 => ⟨S64x5x26x26, .f32⟩
  | 80 => ⟨S64x5x26x26x1, .f32⟩
  | 81 => ⟨S64x5x26x26x1, .f32⟩
  | 82 => ⟨S64x5x26x26x1, .f32⟩
  | 83 => ⟨S64x5x26x26x1, .f32⟩
  | 84 => ⟨S64x5x26x26x4, .f32⟩
  | 85 => ⟨S64x5x26x26, .f32⟩
  | 86 => ⟨S64x5x26x26, .f32⟩
  | 87 => ⟨S64x5x26x26, .f32⟩
  | 88 => ⟨S64x5x26x26, .f32⟩
  | 89 => ⟨S64x5x26x26, .f32⟩
  | 90 => ⟨S64x5x26x26, .f32⟩
  | 91 => ⟨S64x5x26x26, .f32⟩
  | 92 => ⟨S64x5x26x26, .f32⟩
  | 93 => ⟨S64x5x26x26, .f32⟩
  | 94 => ⟨S64x5x26x26, .f32⟩
  | 95 => ⟨S64x5x26x26x1, .f32⟩
  | 96 => ⟨S64x5x26x26x1, .f32⟩
  | 97 => ⟨S64x5x26x26x1, .f32⟩
  | 98 => ⟨S64x5x26x26x1, .f32⟩
  | 99 => ⟨S64x5x26x26x4, .f32⟩
  | 100 => ⟨S64x5x26x26x1, .f32⟩
  | 101 => ⟨S64x5x26x26, .f32⟩
  | 102 => ⟨S64x5x26x26x1, .f32⟩
  | 103 => ⟨S64x5x26x26, .f32⟩
  | 104 => ⟨S64x5x26x26, .f32⟩
  | 105 => ⟨S64x5x26x26x1, .f32⟩
  | 106 => ⟨S64x5x26x26, .f32⟩
  | 107 => ⟨S64x5x26x26x1, .f32⟩
  | 108 => ⟨S64x5x26x26, .f32⟩
  | 109 => ⟨S64x5x26x26, .f32⟩
  | 110 => ⟨S64x5x26x26, .f32⟩
  | 111 => ⟨S64x5x26x26x1, .f32⟩
  | 112 => ⟨S64x5x26x26, .f32⟩
  | 113 => ⟨S64x5x26x26x1, .f32⟩
  | 114 => ⟨S64x5x26x26, .f32⟩
  | 115 => ⟨S64x5x26x26, .f32⟩
  | 116 => ⟨S64x5x26x26x1, .f32⟩
  | 117 => ⟨S64x5x26x26, .f32⟩
  | 118 => ⟨S64x5x26x26x1, .f32⟩
  | 119 => ⟨S64x5x26x26, .f32⟩
  | 120 => ⟨S64x5x26x26, .f32⟩
  | 121 => ⟨S64x5x26x26, .f32⟩
  | 122 => ⟨S64x5x26x26x2, .f32⟩
  | 123 => ⟨S64x5x26x26x2, .f32⟩
  | 124 => ⟨S64x5x26x26x2, .f32⟩
  | 125 => ⟨S64x5x26x26x2, .f32⟩
  | 126 => ⟨S64x5x26x26x2, .f32⟩
  | 127 => ⟨S64x5x26x26x2, .f32⟩
  | _ => ⟨S64x5x26x26x85, .f32⟩

abbrev hbmTy0_1 (i : Nat) : BufTy := match i % 128 with
  | 0 => ⟨S64x5x26x26x2, .f32⟩
  | 1 => ⟨S_, .f32⟩
  | 2 => ⟨S64x5x26x26x2, .f32⟩
  | 3 => ⟨S64x5x26x26x2, .f32⟩
  | 4 => ⟨S64x5x26x26x1, .f32⟩
  | 5 => ⟨S64x5x26x26, .f32⟩
  | 6 => ⟨S64x5x26x26x1, .f32⟩
  | 7 => ⟨S64x5x26x26, .f32⟩
  | 8 => ⟨S64x5x26x26, .f32⟩
  | 9 => ⟨S64x5x26x26, .f32⟩
  | 10 => ⟨S64x5x26x26, .f32⟩
  | 11 => ⟨S_, .f32⟩
  | 12 => ⟨S64x5x26x26, .f32⟩
  | 13 => ⟨S64x5x26x26, .f32⟩
  | 14 => ⟨S64x5x26x26, .f32⟩
  | 15 => ⟨S64x5x26x26, .f32⟩
  | 16 => ⟨S64x5x26x26, .f32⟩
  | 17 => ⟨S_, .f32⟩
  | 18 => ⟨S_, .f32⟩
  | 19 => ⟨S64x5x26x26, .f32⟩
  | 20 => ⟨S64x5x26x26, .f32⟩
  | 21 => ⟨S_, .f32⟩
  | 22 => ⟨S_, .f32⟩
  | 23 => ⟨S_, .f32⟩
  | 24 => ⟨S_, .f32⟩
  | 25 => ⟨S64x5x26x26, .f32⟩
  | 26 => ⟨S64x5x26x26, .f32⟩
  | 27 => ⟨S_, .f32⟩
  | 28 => ⟨S_, .f32⟩
  | 29 => ⟨S64x5x26x26, .f32⟩
  | 30 => ⟨S64x5x26x26, .f32⟩
  | 31 => ⟨S_, .f32⟩
  | 32 => ⟨S_, .f32⟩
  | 33 => ⟨S_, .f32⟩
  | 34 => ⟨S_, .f32⟩
  | 35 => ⟨S64x5x26x26, .f32⟩
  | 36 => ⟨S64x5x26x26, .f32⟩
  | 37 => ⟨S_, .f32⟩
  | 38 => ⟨S_, .f32⟩
  | 39 => ⟨S64x5x26x26, .f32⟩
  | 40 => ⟨S64x5x26x26, .f32⟩
  | 41 => ⟨S_, .f32⟩
  | 42 => ⟨S_, .f32⟩
  | 43 => ⟨S_, .f32⟩
  | 44 => ⟨S_, .f32⟩
  | 45 => ⟨S64x5x26x26, .f32⟩
  | 46 => ⟨S64x5x26x26, .f32⟩
  | 47 => ⟨S_, .f32⟩
  | 48 => ⟨S_, .f32⟩
  | 49 => ⟨S64x5x26x26, .f32⟩
  | 50 => ⟨S64x5x26x26, .f32⟩
  | 51 => ⟨S_, .f32⟩
  | 52 => ⟨S_, .f32⟩
  | 53 => ⟨S_, .f32⟩
  | 54 => ⟨S_, .f32⟩
  | 55 => ⟨S64x5x26x26, .f32⟩
  | 56 => ⟨S64x5x26x26, .f32⟩
  | 57 => ⟨S_, .f32⟩
  | 58 => ⟨S_, .f32⟩
  | 59 => ⟨S64x5x26x26, .f32⟩
  | 60 => ⟨S64x5x26x26, .f32⟩
  | 61 => ⟨S_, .f32⟩
  | 62 => ⟨S_, .f32⟩
  | 63 => ⟨S_, .f32⟩
  | 64 => ⟨S_, .f32⟩
  | 65 => ⟨S64x5x26x26, .f32⟩
  | 66 => ⟨S_, .f32⟩
  | 67 => ⟨S_, .f32⟩
  | 68 => ⟨S64x5x26x26, .f32⟩
  | 69 => ⟨S64x5x26x26, .f32⟩
  | 70 => ⟨S_, .f32⟩
  | 71 => ⟨S_, .f32⟩
  | 72 => ⟨S_, .f32⟩
  | 73 => ⟨S_, .f32⟩
  | 74 => ⟨S_, .f32⟩
  | 75 => ⟨S64x5x26x26x80, .f32⟩
  | 76 => ⟨S64x5x26x26x80, .f32⟩
  | 77 => ⟨S64x5x26x26x80, .f32⟩
  | 78 => ⟨S_, .f32⟩
  | 79 => ⟨S64x5x26x26x80, .f32⟩
  | 80 => ⟨S64x5x26x26x80, .f32⟩
  | 81 => ⟨S_, .f32⟩
  | 82 => ⟨S64x5x26x26x80, .f32⟩
  | 83 => ⟨S64x5x26x26x80, .f32⟩
  | 84 => ⟨S_, .f32⟩
  | 85 => ⟨S64x5x26x26x80, .f32⟩
  | 86 => ⟨S64x5x26x26x80, .f32⟩
  | 87 => ⟨S64x5x26x26x80, .f32⟩
  | 88 => ⟨S_, .f32⟩
  | 89 => ⟨S64x5x26x26x80, .f32⟩
  | 90 => ⟨S64x5x26x26x80, .f32⟩
  | 91 => ⟨S64x5x26x26x80, .f32⟩
  | 92 => ⟨S_, .f32⟩
  | 93 => ⟨S64x5x26x26x80, .f32⟩
  | 94 => ⟨S64x5x26x26x80, .f32⟩
  | 95 => ⟨S64x5x26x26x80, .f32⟩
  | 96 => ⟨S64x5x26x26x80, .f32⟩
  | 97 => ⟨S64x5x26x26x80, .f32⟩
  | 98 => ⟨S64x5x26x26x1, .i1⟩
  | 99 => ⟨S_, .f32⟩
  | 100 => ⟨S_, .f32⟩
  | 101 => ⟨S64x5x26x26x80, .i1⟩
  | 102 => ⟨S64x5x26x26x80, .f32⟩
  | 103 => ⟨S64x5x26x26x80, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | _ => ⟨S64x5x26x26x85, .f32⟩

abbrev hbmTy (i : Nat) : BufTy := match i / 128 with
  | 0 => hbmTy0_0 i
  | 1 => hbmTy0_1 i
  | _ => ⟨S64x5x26x26x85, .f32⟩

abbrev bufTy : (tb : Table) → Fin (tcTables nBuf tb) → BufTy
  | .hbm, ⟨i, _⟩ => hbmTy i
  | _, _ => ⟨S64x5x26x26x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_v35 : Ref sig .tc := ⟨.hbm, 47, rfl⟩
abbrev main_c_8 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_cst_11 : Ref sig .tc := ⟨.hbm, 54, rfl⟩
abbrev main_v39 : Ref sig .tc := ⟨.hbm, 55, rfl⟩
abbrev main_cst_12 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_cst_14 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_cst_15 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_cst_16 : Ref sig .tc := ⟨.hbm, 145, rfl⟩
abbrev main_call0_v0 : Ref sig .tc := ⟨.hbm, 146, rfl⟩
abbrev main_call0_v1 : Ref sig .tc := ⟨.hbm, 147, rfl⟩
abbrev main_v125 : Ref sig .tc := ⟨.hbm, 148, rfl⟩
abbrev main_cst_17 : Ref sig .tc := ⟨.hbm, 149, rfl⟩
abbrev main_v126 : Ref sig .tc := ⟨.hbm, 150, rfl⟩
abbrev main_cst_18 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_cst_19 : Ref sig .tc := ⟨.hbm, 155, rfl⟩
abbrev main_call1_v0 : Ref sig .tc := ⟨.hbm, 156, rfl⟩
abbrev main_call1_v1 : Ref sig .tc := ⟨.hbm, 157, rfl⟩
abbrev main_v130 : Ref sig .tc := ⟨.hbm, 158, rfl⟩
abbrev main_cst_20 : Ref sig .tc := ⟨.hbm, 159, rfl⟩
abbrev main_v131 : Ref sig .tc := ⟨.hbm, 160, rfl⟩
abbrev main_cst_21 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_cst_22 : Ref sig .tc := ⟨.hbm, 165, rfl⟩
abbrev main_call2_v0 : Ref sig .tc := ⟨.hbm, 166, rfl⟩
abbrev main_call2_v1 : Ref sig .tc := ⟨.hbm, 167, rfl⟩
abbrev main_v135 : Ref sig .tc := ⟨.hbm, 168, rfl⟩
abbrev main_cst_23 : Ref sig .tc := ⟨.hbm, 169, rfl⟩
abbrev main_v136 : Ref sig .tc := ⟨.hbm, 170, rfl⟩
abbrev main_cst_24 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_cst_25 : Ref sig .tc := ⟨.hbm, 175, rfl⟩
abbrev main_call3_v0 : Ref sig .tc := ⟨.hbm, 176, rfl⟩
abbrev main_call3_v1 : Ref sig .tc := ⟨.hbm, 177, rfl⟩
abbrev main_v140 : Ref sig .tc := ⟨.hbm, 178, rfl⟩
abbrev main_cst_26 : Ref sig .tc := ⟨.hbm, 179, rfl⟩
abbrev main_v141 : Ref sig .tc := ⟨.hbm, 180, rfl⟩
abbrev main_cst_27 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_cst_28 : Ref sig .tc := ⟨.hbm, 185, rfl⟩
abbrev main_call4_v0 : Ref sig .tc := ⟨.hbm, 186, rfl⟩
abbrev main_call4_v1 : Ref sig .tc := ⟨.hbm, 187, rfl⟩
abbrev main_v145 : Ref sig .tc := ⟨.hbm, 188, rfl⟩
abbrev main_cst_29 : Ref sig .tc := ⟨.hbm, 189, rfl⟩
abbrev main_v146 : Ref sig .tc := ⟨.hbm, 190, rfl⟩
abbrev main_cst_30 : Ref sig .tc := ⟨.hbm, 191, rfl⟩
abbrev main_v147 : Ref sig .tc := ⟨.hbm, 192, rfl⟩
abbrev main_v148 : Ref sig .tc := ⟨.hbm, 193, rfl⟩
abbrev main_cst_31 : Ref sig .tc := ⟨.hbm, 194, rfl⟩
abbrev main_call5_v0 : Ref sig .tc := ⟨.hbm, 195, rfl⟩
abbrev main_call5_v1 : Ref sig .tc := ⟨.hbm, 196, rfl⟩
abbrev main_v149 : Ref sig .tc := ⟨.hbm, 197, rfl⟩
abbrev main_cst_32 : Ref sig .tc := ⟨.hbm, 198, rfl⟩
abbrev main_v150 : Ref sig .tc := ⟨.hbm, 199, rfl⟩
abbrev main_cst_33 : Ref sig .tc := ⟨.hbm, 200, rfl⟩
abbrev main_v151 : Ref sig .tc := ⟨.hbm, 201, rfl⟩
abbrev main_cst_34 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_cst_35 : Ref sig .tc := ⟨.hbm, 206, rfl⟩
abbrev main_v155 : Ref sig .tc := ⟨.hbm, 207, rfl⟩
abbrev main_v156 : Ref sig .tc := ⟨.hbm, 208, rfl⟩
abbrev main_cst_36 : Ref sig .tc := ⟨.hbm, 209, rfl⟩
abbrev main_v157 : Ref sig .tc := ⟨.hbm, 210, rfl⟩
abbrev main_v158 : Ref sig .tc := ⟨.hbm, 211, rfl⟩
abbrev main_cst_37 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_cst_38 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_cst_39 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_cst_40 : Ref sig .tc := ⟨.hbm, 227, rfl⟩
abbrev main_call6_v0 : Ref sig .tc := ⟨.hbm, 228, rfl⟩
abbrev main_call6_v1 : Ref sig .tc := ⟨.hbm, 229, rfl⟩
abbrev main_call6_v2 : Ref sig .tc := ⟨.hbm, 230, rfl⟩
abbrev main_v171 : Ref sig .tc := ⟨.hbm, 231, rfl⟩
abbrev main_cst_41 : Ref sig .tc := ⟨.hbm, 232, rfl⟩
abbrev main_v172 : Ref sig .tc := ⟨.hbm, 233, rfl⟩
abbrev main_cst_42 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_cst_43 : Ref sig .tc := ⟨.hbm, 242, rfl⟩
abbrev main_v180 : Ref sig .tc := ⟨.hbm, 243, rfl⟩

abbrev nD : Nat := 1
abbrev τ : Topo := Topo.v7x

variable {F : FTy → Type} [FloatOps F]
-- ==== Proof.Sums.lean ====
module

public import Idealize.ShloMosaic.PureOps.Ideal.Laws
public import Idealize.ShloMosaic.Lib.Pointwise

@[expose] public section

noncomputable section

/-! # The loss of one confidence, and sums over rows cut into equal runs

The only numbers the loss depends on are the confidence scores (channel 4 of every prediction). Each contributes the
square of its logistic function; both programs add these squares up, the one block by block, the other all at once. -/

namespace Cert.Loss

open Idealize.ShloMosaic

/-- The logistic function `1 / (1 + e^(-x))` on the extended reals. -/
def conf (x : EReal) : EReal := Ideal.div 1 (1 + Ideal.exp (-x))

/-- What one confidence score adds to the loss: the square of its logistic function. -/
def confSq (x : EReal) : EReal := conf x * conf x

/-- The loss of the predictions before averaging: over every image, anchor and grid cell, the square of the logistic
function of the confidence score. -/
def lossSum (X : (⟨5, ![64, 5, 26, 26, 85]⟩ : Shape).Idx → EReal) : EReal :=
  ∑ b : Fin 64, ∑ a : Fin 5, ∑ g : Fin 26, ∑ r : Fin 26, confSq (X (ix5 b a g r (4 : Fin 85)))

/-- A sum over `k * T` consecutive numbers is the sum over `T` runs of `k` consecutive numbers. -/
theorem sum_range_runs {M : Type} [AddCommMonoid M] (f : ℕ → M) (k : ℕ) :
    ∀ T : ℕ, ∑ n ∈ Finset.range (k * T), f n = ∑ t ∈ Finset.range T, ∑ p ∈ Finset.range k, f (k * t + p)
  | 0 => by simp
  | T + 1 => by
    rw [Nat.mul_succ, Finset.sum_range_add, sum_range_runs f k T, Finset.sum_range_succ]

/-- Adding up two half-ranges of runs side by side is adding up the whole range of runs. -/
theorem sum_range_halves {M : Type} [AddCommMonoid M] (f : ℕ → M) (k T : ℕ) :
    ∑ t ∈ Finset.range T, ((∑ p ∈ Finset.range k, f (k * t + p)) + ∑ p ∈ Finset.range k, f (k * (t + T) + p))
      = ∑ n ∈ Finset.range (k * (T + T)), f n := by
  rw [sum_range_runs, Finset.sum_range_add, Finset.sum_add_distrib]
  simp only [Nat.add_comm T]

/-- The bit pattern of `1.0` is the number one. -/
theorem ofBits_one : Ideal.ofBits .f32 0x3F800000#32 = 1 := by
  simp [Ideal.ofBits, Ideal.ieee]
  norm_num
  rw [← EReal.coe_mul]
  norm_num

/-- The bit pattern of `64.0` is the number sixty-four. -/
theorem ofBits_64 : Ideal.ofBits .f32 0x42800000#32 = ((64 : ℝ) : EReal) := by
  simp [Ideal.ofBits, Ideal.ieee]
  norm_num
  rw [← EReal.coe_mul]
  norm_num

/-- The bit pattern of `0.015625` is one sixty-fourth, exactly. -/
theorem ofBits_inv64 : Ideal.ofBits .f32 0x3C800000#32 = (((64 : ℝ)⁻¹ : ℝ) : EReal) := by
  simp [Ideal.ofBits, Ideal.ieee]
  norm_num
  rw [← EReal.coe_mul]
  norm_num

/-- Dividing by sixty-four is multiplying by one sixty-fourth, for every extended real. -/
theorem div_64 (x : EReal) : Ideal.div x (Ideal.ofBits .f32 0x42800000#32) = x * Ideal.ofBits .f32 0x3C800000#32 := by
  rw [ofBits_64, ofBits_inv64, Ideal.div, if_neg (by norm_num), EReal.coe_inv]

end Cert.Loss

end
-- ==== Proof.Block.lean ====
module

public import proofs.«01_k».proof.Proof.Gen.KernelIdeal.Frame
public import proofs.«01_k».proof.Proof.Sums
public import Idealize.ShloMosaic.Lib.Pipeline.Value
public import Idealize.ShloMosaic.Lib.WholeRead

@[expose] public section

noncomputable section

/-! # What one grid point computes

A grid point is handed two blocks of 130 rows. It adds to the running total the squares of the logistic function of
every confidence score in the two blocks. -/

namespace Cert.KernelIdeal.Loss

open Cert.KernelIdeal Cert.KernelIdeal.Gen Cert.Loss Idealize.ShloMosaic Idealize.ShloMosaic.TcCoe Idealize.SL.Sem

variable {F : FTy → Type} [FloatOps F]

/-- The rectangle of a block that holds its confidence scores: channel 4 of every position. -/
abbrev chanRect : Rect S130x26x85 := Rect.unit ![0, 0, 4] S130x26x1.size inb_S130x26x85_S130x26x1_0_0_4

/-- The confidence scores of a block. -/
def chan (x : Vec F S130x26x85 .f32) : Vec F S130x26x1 .f32 := fun j => x (chanRect.toLoadRect.idx j)

/-- The one index of the running total. -/
def origin : S1x1.Idx := ix2 (0 : Fin 1) (0 : Fin 1)

/-- There is one index only. -/
theorem idx_eq_origin (j : S1x1.Idx) : j = origin := by
  funext a
  fin_cases a <;> exact Subsingleton.elim (α := Fin 1) _ _

/-- Loading channel 4 from a staging buffer that holds a block gives the block's confidence scores. -/
theorem readAt_chan (M : Memref sig .tc .vmem S130x26x85 .f32) (hM : M.IsWhole) (x : Vec F S130x26x85 .f32) :
    View.readAt (Elt F) M.view chanRect.toLoadRect (hM.unread x) = chan x :=
  funext fun j => hM.readAt_unread x _ j

section Cases

variable (c : Dev nD) (i : grid0.Coords)
  (arg1 : Memref sig .tc .vmem S130x26x85 .f32) (harg1 : arg1.IsWhole)
  (arg2 : Memref sig .tc .vmem S130x26x85 .f32) (harg2 : arg2.IsWhole)
  (arg3 : Memref sig .tc .smem S1x1 .f32) (harg3 : arg3.IsWhole)
  (arg4 : Memref sig .tc .smem S1x1 .f32) (harg4 : arg4.IsWhole)
  (x0 x1 : Vec F S130x26x85 .f32) (xs0 : Vec F S1x1 .f32)

/-- The first point starts the running total from zero. -/
theorem first_point (hc0 : cond0_0 i) (hc1 : ¬cond0_1 i) :
    sout0_A_0 c i arg1 harg1 arg2 harg2 arg3 harg3 arg4 harg4 hc0 hc1 x0 x1
      = fun _ => k0_pay1 (chan x0) (chan x1) (Scalar.ofBits .f32 0x00000000#32) := by
  unfold sout0_A_0
  rw [View.read_writes_eq_canon _ _ _ (scover0_A_0 c i arg1 harg1 arg2 harg2 arg3 harg3 arg4 harg4 hc0 hc1 x0 x1)]
  unfold kernelRun0_A
  dsimp only
  rw [View.canon_cons_unit_zero (by funext a; fin_cases a <;> rfl), readAt_chan, readAt_chan]
  rfl

/-- A middle point adds to what the point before left. -/
theorem middle_point (hc0 : ¬cond0_0 i) (hc1 : ¬cond0_1 i) :
    sout0_B_0 c i arg1 harg1 arg2 harg2 arg3 harg3 arg4 harg4 hc0 hc1 x0 x1 xs0
      = fun _ => k0_pay1 (chan x0) (chan x1) (xs0 origin) := by
  unfold sout0_B_0
  rw [View.read_writes_eq_canon _ _ _ (scover0_B_0 c i arg1 harg1 arg2 harg2 arg3 harg3 arg4 harg4 hc0 hc1 x0 x1 xs0)]
  unfold kernelRun0_B
  dsimp only
  rw [View.canon_unit_zero (by funext a; fin_cases a <;> rfl), readAt_chan, readAt_chan]
  unfold kernelRun0_B.sl.r
  funext _
  exact congrArg _ ((harg4.readAt_unread xs0 _ _).trans (congrArg xs0 (idx_eq_origin _)))

/-- The last point adds to what the point before left, and hands the total out. -/
theorem last_point (hc0 : ¬cond0_0 i) (hc1 : cond0_1 i) :
    out0_C_2 c i arg1 harg1 arg2 harg2 arg3 harg3 arg4 harg4 hc0 hc1 x0 x1 xs0
      = fun _ => k0_pay1 (chan x0) (chan x1) (xs0 origin) := by
  unfold out0_C_2
  rw [View.read_writes_eq_canon _ _ _ (cover0_C_2 c i arg1 harg1 arg2 harg2 arg3 harg3 arg4 harg4 hc0 hc1 x0 x1 xs0)]
  unfold kernelRun0_C
  dsimp only
  rw [View.canon_unit_zero (by funext a; fin_cases a <;> rfl)]
  unfold kernelRun0_C.sl.r_1
  rw [readAt_chan, readAt_chan]
  unfold kernelRun0_C.sl.r
  funext _
  exact congrArg _ ((harg4.readAt_unread xs0 _ _).trans (congrArg xs0 (idx_eq_origin _)))

end Cases

/-- The loss of a block of rows: the squares of the logistic function of its confidence scores, added up. -/
def blockLoss (x : Vec Ideal S130x26x85 .f32) : EReal :=
  ∑ p : Fin 130, ∑ r : Fin 26, confSq (x (ix3 p r (4 : Fin 85)))

/-- The confidence scores with the channel axis dropped, at row `p` and position `r`. -/
theorem chan_cast (x : Vec Ideal S130x26x85 .f32) (p : Fin 130) (r : Fin 26) :
    shapeCast S130x26 (chan x) shapeCasts_S130x26x1_S130x26 (ix2 p r) = x (ix3 p r (4 : Fin 85)) := by
  rw [shapeCast_apply _ _ _ (ix3 p r (0 : Fin 1)) (by
    rw [Shape.rowMajor_val_three, Shape.rowMajor_val_two]
    show (p.val * 26 + r.val) * 1 + 0 = p.val * 26 + r.val
    omega)]
  unfold chan
  congr 1
  funext a
  fin_cases a <;> refine Fin.ext ?_
  · show 0 + 1 * p.val = p.val; omega
  · show 0 + 1 * r.val = r.val; omega
  · rfl

/-- The payload of a point over the extended reals: the total it found plus the losses of its two blocks. -/
theorem pay_eq (x0 x1 : Vec Ideal S130x26x85 .f32) (v : EReal) :
    k0_pay1 (F := Ideal) (chan x0) (chan x1) v = v + (blockLoss x0 + blockLoss x1) := by
  have key : ∀ (x : Vec Ideal S130x26x85 .f32) (g : FVec Ideal S130x26 .f32),
      (∀ p r, g (ix2 p r) = confSq (x (ix3 p r (4 : Fin 85)))) →
      extractAt ![0, 0, 0] (shapeCast S1x1x1 (multiReduction .add [1, 2] S1 (shapeCast S1x130x26 g shapeCasts_S130x26_S1x130x26)
        0x00000000#32 reduces_S1x130x26_S1 (.inl rfl) rfl) shapeCasts_S1_S1x1x1) inpos_S1x1x1_p0_0_0 = blockLoss x := by
    intro x g hg
    unfold extractAt
    rw [shapeCast_apply _ _ _ (ix1 (0 : Fin 1)) (by
      rw [Shape.rowMajor_val_one, Shape.rowMajor_val_three]; rfl)]
    refine (Ideal.multiReduction_add_total (t := S1) _ _ reduces_S1x130x26_S1 (by intro b; fin_cases b; rfl) _ _ _).trans ?_
    rw [sum_idx3, Fin.sum_univ_one]
    refine Finset.sum_congr rfl fun p _ => Finset.sum_congr rfl fun r _ => ?_
    rw [← hg, shapeCast_addUnit_apply]
    congr 1
    funext a
    fin_cases a <;> rfl
  have pt : ∀ (x : Vec Ideal S130x26x85 .f32) (p : Fin 130) (r : Fin 26),
      Ideal.div (Ideal.ofBits .f32 0x3F800000#32) (Ideal.ofBits .f32 0x3F800000#32 + Ideal.exp (Ideal.ofBits .f32 0x00000000#32
        - shapeCast S130x26 (chan x) shapeCasts_S130x26x1_S130x26 (ix2 p r))) = conf (x (ix3 p r (4 : Fin 85))) := by
    intro x p r
    rw [chan_cast, ofBits_one, Ideal.ofBits_zero_f32, zero_sub]
    rfl
  unfold k0_pay1
  dsimp only
  rw [key x0 _ fun p r => congrArg₂ (· * ·) (pt x0 p r) (pt x0 p r), key x1 _ fun p r => congrArg₂ (· * ·) (pt x1 p r) (pt x1 p r)]
  rfl

end Cert.KernelIdeal.Loss

end
-- ==== Proof.Array.lean ====
module

public import proofs.«01_k».proof.Proof.Block

@[expose] public section

noncomputable section

/-! # What the kernel's result holds

Grid point `t` is handed blocks `t` and `t + 32` of the 64 blocks of rows, so the 32 points between them meet every one
of the 8320 rows once. The total handed out at the last point is the loss of all the rows. -/

namespace Cert.KernelIdeal.Loss

open Cert.KernelIdeal Cert.KernelIdeal.Gen Cert.Loss Idealize.ShloMosaic Idealize.ShloMosaic.TcCoe Idealize.SL.Sem

/-- The loss of row `n` of the predictions laid out as 8320 rows of 26 positions (zero past the last row). -/
def rowLoss (Y : S8320x26x85.Idx → EReal) (n : ℕ) : EReal :=
  if h : n < 8320 then ∑ r : Fin 26, confSq (Y (ix3 (⟨n, h⟩ : Fin 8320) r (4 : Fin 85))) else 0

variable (m : (ℓ : Loc nD τ sig) → Buf (Elt Ideal) ℓ) (c : Dev nD)

/-- The predictions as the pipeline finds them: 8320 rows of 26 positions of 85 channels. -/
def rows : S8320x26x85.Idx → EReal := V m c main_v0

/-- The only coordinate of a grid point is its number. -/
theorem coord_val (t : Fin cfg0.N) : (grid0.coords t 0).val = t.val := by
  have ht : t.val < 32 := Nat.lt_of_lt_of_eq t.isLt N_0
  have e : (grid0.coords t 0).val = t.val / 1 % 32 := Pipeline.Grid.coords_val t 0 (by decide) rfl
  omega

/-- The first window's block at point `t` is block `t`. -/
theorem index_first (t : Fin cfg0.N) : cc0_transform_0 (grid0.coords t) = ![t.val, 0, 0] := by
  have ht : t.val < 32 := Nat.lt_of_lt_of_eq t.isLt N_0
  unfold cc0_transform_0
  dsimp only
  rw [coord_val, BitVec.toNat_ofNat, Nat.mod_eq_of_lt (by omega)]
  rfl

/-- The second window's block at point `t` is block `t + 32`. -/
theorem index_second (t : Fin cfg0.N) : cc0_transform_1 (grid0.coords t) = ![t.val + 32, 0, 0] := by
  have ht : t.val < 32 := Nat.lt_of_lt_of_eq t.isLt N_0
  unfold cc0_transform_1
  dsimp only
  rw [coord_val]
  have e : (Scalar.addi (BitVec.ofNat 32 t.val) 32#32).toNat = t.val + 32 := by
    show (BitVec.ofNat 32 t.val + 32#32).toNat = _
    rw [BitVec.toNat_add, BitVec.toNat_ofNat]
    simp only [BitVec.toNat_ofNat]
    omega
  rw [e]
  rfl

/-- The first block of point `t`, element by element. -/
theorem first_block_apply (t : Fin cfg0.N) (p : Fin 130) (r : Fin 26) (l : Fin 85) (h : 130 * t.val + p.val < 8320) :
    iblk m c 0 t (ix3 p r l) = rows m c (ix3 (⟨130 * t.val + p.val, h⟩ : Fin 8320) r l) := by
  show V m c main_v0 (((cfg0.win 0).rect t).emb (ix3 p r l)) = V m c main_v0 _
  congr 1
  have e : ∀ a, ((((cfg0.win 0).rect t).emb (ix3 p r l)) a : ℕ)
      = cc0_transform_0 (grid0.coords t) a * S130x26x85.size a + (ix3 p r l a : ℕ) :=
    fun a => Pipeline.Window.rect_emb_val (cfg0.win 0) t (ix3 p r l) a rfl
  rw [index_first] at e
  funext a
  refine Fin.ext ((e a).trans ?_)
  fin_cases a
  · show t.val * 130 + p.val = 130 * t.val + p.val; omega
  · show 0 * 26 + r.val = r.val; omega
  · show 0 * 85 + l.val = l.val; omega

/-- The second block of point `t`, element by element. -/
theorem second_block_apply (t : Fin cfg0.N) (p : Fin 130) (r : Fin 26) (l : Fin 85)
    (h : 130 * (t.val + 32) + p.val < 8320) :
    iblk m c 1 t (ix3 p r l) = rows m c (ix3 (⟨130 * (t.val + 32) + p.val, h⟩ : Fin 8320) r l) := by
  show V m c main_v0 (((cfg0.win 1).rect t).emb (ix3 p r l)) = V m c main_v0 _
  congr 1
  have e : ∀ a, ((((cfg0.win 1).rect t).emb (ix3 p r l)) a : ℕ)
      = cc0_transform_1 (grid0.coords t) a * S130x26x85.size a + (ix3 p r l a : ℕ) :=
    fun a => Pipeline.Window.rect_emb_val (cfg0.win 1) t (ix3 p r l) a rfl
  rw [index_second] at e
  funext a
  refine Fin.ext ((e a).trans ?_)
  fin_cases a
  · show (t.val + 32) * 130 + p.val = 130 * (t.val + 32) + p.val; omega
  · show 0 * 26 + r.val = r.val; omega
  · show 0 * 85 + l.val = l.val; omega

/-- The loss of the first block of point `t` is the loss of rows `130 t` to `130 t + 129`. -/
theorem first_block_loss (t : Fin cfg0.N) :
    blockLoss (iblk m c 0 t) = ∑ p ∈ Finset.range 130, rowLoss (rows m c) (130 * t.val + p) := by
  have ht : t.val < 32 := Nat.lt_of_lt_of_eq t.isLt N_0
  rw [Finset.sum_range]
  refine Finset.sum_congr rfl fun p _ => ?_
  have h : 130 * t.val + p.val < 8320 := by omega
  rw [rowLoss, dif_pos h]
  exact Finset.sum_congr rfl fun r _ => congrArg confSq (first_block_apply m c t p r 4 h)

/-- The loss of the second block of point `t` is the loss of rows `130 (t + 32)` to `130 (t + 32) + 129`. -/
theorem second_block_loss (t : Fin cfg0.N) :
    blockLoss (iblk m c 1 t) = ∑ p ∈ Finset.range 130, rowLoss (rows m c) (130 * (t.val + 32) + p) := by
  have ht : t.val < 32 := Nat.lt_of_lt_of_eq t.isLt N_0
  rw [Finset.sum_range]
  refine Finset.sum_congr rfl fun p _ => ?_
  have h : 130 * (t.val + 32) + p.val < 8320 := by omega
  rw [rowLoss, dif_pos h]
  exact Finset.sum_congr rfl fun r _ => congrArg confSq (second_block_apply m c t p r 4 h)

/-- What point `t` adds to the running total: the losses of its two blocks of rows. -/
def pointLoss (t : ℕ) : EReal :=
  (∑ p ∈ Finset.range 130, rowLoss (rows m c) (130 * t + p))
    + ∑ p ∈ Finset.range 130, rowLoss (rows m c) (130 * (t + 32) + p)

/-- A point's payload, over the total `v` it found. -/
theorem point_pay (t : Fin cfg0.N) (v : EReal) :
    k0_pay1 (F := Ideal) (chan (iblk m c 0 t)) (chan (iblk m c 1 t)) v = v + pointLoss m c t.val := by
  rw [pay_eq, first_block_loss, second_block_loss]
  rfl

/-- Before the last point, the running total after point `n` is what the points up to `n` added. -/
theorem running_total : ∀ (n : ℕ) (hn : n < cfg0.N), n < 31 →
    (outsAt0 m c n hn).2 = fun _ => ∑ t ∈ Finset.range (n + 1), pointLoss m c t
  | 0, hn, _ => by
    rw [outsAt0_A m c ⟨0, hn⟩ (Nat.zero_mod _) (by show ¬(0 % 32 = 31); omega)]
    dsimp only
    rw [first_point]
    funext _
    rw [point_pay]
    show Ideal.ofBits .f32 0x00000000#32 + _ = _
    rw [Ideal.ofBits_zero_f32, zero_add]
    simp
  | n + 1, hn, h31 => by
    have ih := running_total n (Nat.lt_of_succ_lt hn) (by omega)
    rw [outsAt0_B m c ⟨n + 1, hn⟩ (by show ¬((n + 1) % 32 = 0); omega) (by show ¬((n + 1) % 32 = 31); omega)]
    dsimp only
    rw [middle_point]
    funext _
    rw [point_pay, Finset.sum_range_succ _ (n + 1)]
    exact congrArg (· + pointLoss m c (n + 1)) (congrFun ih origin)

/-- The loss of all the rows. -/
def allRows : EReal := ∑ n ∈ Finset.range 8320, rowLoss (rows m c) n

/-- The last point hands out the loss of all the rows. -/
theorem handed_out (t : Fin cfg0.N) (h : t.val % 32 = 31) : (outsAt0 m c t.val t.isLt).1 = fun _ => allRows m c := by
  have ht : t.val < 32 := Nat.lt_of_lt_of_eq t.isLt N_0
  obtain ⟨n, hn⟩ := t
  obtain rfl : n = 31 := by dsimp only at h ht; omega
  rw [outsAt0_C m c ⟨31, hn⟩ (by show ¬(31 % 32 = 0); omega) h]
  dsimp only
  rw [last_point]
  funext _
  rw [point_pay]
  have ih := congrFun (running_total m c 30 (Nat.lt_of_succ_lt hn) (by omega)) origin
  refine (congrArg (· + pointLoss m c 31) ih).trans ?_
  show (∑ t ∈ Finset.range 31, pointLoss m c t) + pointLoss m c 31 = _
  rw [← Finset.sum_range_succ]
  exact sum_range_halves (rowLoss (rows m c)) 130 32

/-- The kernel's one-element result array ends holding the loss of all the rows. -/
theorem result_array : (dats m 0 c).arrAt 2 cfg0.N = fun _ => allRows m c := by
  refine (dats m 0 c).arrAt_eq_of_cover 2 (fun _ => allRows m c) (fun t hf => ?_) (fun i => ?_)
  · have h : t.val % 32 = 31 := (flush0_2 t).mp hf
    show (cfg0.win 2).cut (grid0.coords t) ((dats m 0 c).after 2 t) = _
    rw [after0_2, handed_out m c t h]
    generalize allRows m c = total
    rfl
  · have h31 : 31 < cfg0.N := by rw [show cfg0.N = 32 from N_0]; omega
    refine ⟨⟨31, h31⟩, (flush0_2 _).mpr rfl, ?_⟩
    have e : i = ((cfg0.win 2).blk ⟨31, h31⟩).view.emb origin := (idx_eq_origin i).trans (idx_eq_origin _).symm
    rw [e]
    exact View.emb_mem_set _ _

end Cert.KernelIdeal.Loss

end
-- ==== Proof.Kernel.lean ====
module

public import proofs.«01_k».proof.Proof.Array
public import Idealize.ShloMosaic.Lib.Claim

@[expose] public section

noncomputable section

/-! # What the kernel program computes

Around the pipeline the program does two things on the host: before it, the predictions are laid out as rows; after it,
the total is multiplied by one sixty-fourth. -/

namespace Cert.KernelIdeal.Loss

open Cert.KernelIdeal Cert.KernelIdeal.Gen Cert.Loss Idealize.ShloMosaic Idealize.ShloMosaic.TcCoe Idealize.SL.Sem

variable (m : (ℓ : Loc nD τ sig) → Buf (Elt Ideal) ℓ) (c : Dev nD)

/-- The rows are the predictions in their row-major order. -/
theorem rows_eq : rows m c = shapeCast S8320x26x85 (m ((c : Thread nD τ).loc main_arg0)) shapeCasts_S64x5x26x26x85_S8320x26x85 := by
  unfold rows V V0
  simp only [hostOps0, List.flatten_cons, List.flatten_nil, List.append_nil]
  after_results
  rfl

/-- The program's result: the loss of all the rows times one sixty-fourth. -/
theorem host_result : Pipeline.afterTail₀ cfgs (dats m) 0 (V0 m) [hostOps1] c main_v3
    = fun _ => allRows m c * Ideal.ofBits .f32 0x3C800000#32 := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.devRef .tc main_v1)
      = fun _ => allRows m c :=
    ((dats m 0 c).withArrays_arrAt sharedIn0 (V0 m c) (A_eq m c) 2).trans (result_array m c)
  rw [e]
  generalize allRows m c = total
  rfl

/-- Every run of the kernel program ends with the loss of all the rows times one sixty-fourth in its result, and with its
arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v3) = (fun _ => allRows m c * Ideal.ofBits .f32 0x3C800000#32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (run_main m ρ) fun _ h c =>
    ⟨((h c).2 main_v3 (Pipeline.mem_restRefs_of main_v3 (by decide) (by decide))).trans (host_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩

end Cert.KernelIdeal.Loss

end
-- ==== Proof.Equation.lean ====
module

public import proofs.«01_k».proof.Proof.Kernel

@[expose] public section

noncomputable section

/-! # The two orders of summation agree

The kernel adds up the predictions row by row, after laying them out as 8320 rows; the mathematics adds them up over
image, anchor and grid cell. Row `26 (5 b + a) + g` holds line `g` of the grid of anchor `a` in image `b`. -/

namespace Cert.KernelIdeal.Loss

open Cert.KernelIdeal Cert.KernelIdeal.Gen Cert.Loss Idealize.ShloMosaic Idealize.ShloMosaic.TcCoe Idealize.SL.Sem

/-- The loss of one row is the loss of one line of the grid. -/
theorem rowLoss_line (X : S64x5x26x26x85.Idx → EReal) (b : Fin 64) (a : Fin 5) (g : Fin 26) :
    rowLoss (shapeCast S8320x26x85 X shapeCasts_S64x5x26x26x85_S8320x26x85) (26 * (5 * b.val + a.val) + g.val)
      = ∑ r : Fin 26, confSq (X (ix5 b a g r (4 : Fin 85))) := by
  have h : 26 * (5 * b.val + a.val) + g.val < 8320 := by omega
  rw [rowLoss, dif_pos h]
  refine Finset.sum_congr rfl fun r _ => congrArg confSq (shapeCast_apply _ _ _ _ ?_)
  rw [Shape.rowMajor_val_five, Shape.rowMajor_val_three]
  show (((b.val * 5 + a.val) * 26 + g.val) * 26 + r.val) * 85 + 4 = ((26 * (5 * b.val + a.val) + g.val) * 26 + r.val) * 85 + 4
  omega

/-- Adding up all the rows is adding up over image, anchor and grid cell. -/
theorem allRows_eq (m : (ℓ : Loc nD τ sig) → Buf (Elt Ideal) ℓ) (c : Dev nD) :
    allRows m c = lossSum (m ((c : Thread nD τ).loc main_arg0)) := by
  unfold allRows
  rw [rows_eq, show (8320 : ℕ) = 26 * (5 * 64) from rfl, sum_range_runs, sum_range_runs _ 5 64, Finset.sum_range]
  refine Finset.sum_congr rfl fun b _ => ?_
  rw [Finset.sum_range]
  refine Finset.sum_congr rfl fun a _ => ?_
  rw [Finset.sum_range]
  exact Finset.sum_congr rfl fun g _ => rowLoss_line _ b a g

end Cert.KernelIdeal.Loss

end
-- ==== Proof.Reference.lean ====
module

public import proofs.«01_k».proof.Proof.Gen.ReferenceIdeal.Run
public import proofs.«01_k».proof.Proof.Sums
public import Idealize.ShloMosaic.Lib.Pipeline.Value
public import Idealize.ShloMosaic.Lib.IdealHost
public import Idealize.ShloMosaic.Lib.Claim

@[expose] public section

noncomputable section

/-! # What the reference computes

No target holds a box, so the mask of matched cells is false everywhere: the four box terms, the matched confidence term
and the class term are sums of zeros. What is left is the mean over the images of the unmatched confidence term. -/

namespace Cert.ReferenceIdeal.Loss

open Cert.ReferenceIdeal Cert.ReferenceIdeal.Gen Cert.ReferenceIdeal.Value Cert.Loss Idealize.ShloMosaic Idealize.ShloMosaic.TcCoe Idealize.SL.Sem
open Idealize.ShloMosaic.StableHlo

variable (V0 : Valuation τ sig (Elt Ideal))

/-- The confidence the reference reads: the logistic function of channel 4. -/
theorem confidence_apply (b : Fin 64) (a : Fin 5) (g r : Fin 26) :
    res_main_v27 V0 (ix4 b a g r) = conf (V0 (Proc.devRef .tc main_arg0) (ix5 b a g r (4 : Fin 85))) := by
  have e : shapeCast S64x5x26x26 (extractStridedSlice S64x5x26x26x1 ![0, 0, 0, 0, 4] (V0 (Proc.devRef .tc main_arg0)) slices_S64x5x26x26x85_S64x5x26x26x1_0_0_0_0_4) shapeCasts_S64x5x26x26x1_S64x5x26x26 (ix4 b a g r)
      = V0 (Proc.devRef .tc main_arg0) (ix5 b a g r (4 : Fin 85)) := by
    rw [shapeCast_apply _ _ _ (ix5 b a g r (0 : Fin 1)) (by
      rw [Shape.rowMajor_val_five, Shape.rowMajor_val_four]
      show (((b.val * 5 + a.val) * 26 + g.val) * 26 + r.val) * 1 + 0 = ((b.val * 5 + a.val) * 26 + g.val) * 26 + r.val
      omega)]
    refine extractStridedSlice_apply _ _ _ _ _ fun k => ?_
    fin_cases k
    · show b.val = 0 + b.val; omega
    · show a.val = 0 + a.val; omega
    · show g.val = 0 + g.val; omega
    · show r.val = 0 + r.val; omega
    · rfl
  unfold res_main_v27
  show Ideal.div (Ideal.ofBits .f32 0x3F800000#32) (Ideal.ofBits .f32 0x3F800000#32 + Ideal.exp (-(_ : EReal))) = _
  rw [ofBits_one]
  unfold conf
  rw [← e]
  rfl

/-- Where the mask is false everywhere, the masked sum over images, anchors and grid cells is zero. -/
theorem masked_sum (X : FVec Ideal S64x5x26x26 .f32) :
    Host.reduceAdd (select (res_main_v35 (F := Ideal) V0) X (broadcastInDim S64x5x26x26 ![] bcast_S_S64x5x26x26 (id (constant S_ .f32 0x00000000#32)))) (constant S_ .f32 0x00000000#32) reducesTo_S64x5x26x26_S_d0_1_2_3 h_S_
      = fun _ => (0 : EReal) := by
  funext j
  refine (Ideal.hostReduceAdd_total reducesTo_S64x5x26x26_S_d0_1_2_3 (fun b => Fin.elim0 b) _ _ j).trans ?_
  rw [Finset.sum_eq_zero (fun i _ => ?_)]
  · show Ideal.ofBits .f32 0x00000000#32 + 0 = 0
    rw [Ideal.ofBits_zero_f32, zero_add]
  · show Ideal.ofBits .f32 0x00000000#32 = 0
    exact Ideal.ofBits_zero_f32

/-- The same over the classes as well. -/
theorem masked_class_sum (X : FVec Ideal S64x5x26x26x80 .f32) :
    Host.reduceAdd (select (broadcastInDim S64x5x26x26x80 ![0, 1, 2, 3, 4] bcast_S64x5x26x26x1_S64x5x26x26x80_0_1_2_3_4 (broadcastInDim S64x5x26x26x1 ![0, 1, 2, 3] bcast_S64x5x26x26_S64x5x26x26x1_0_1_2_3 (res_main_v35 (F := Ideal) V0))) X (broadcastInDim S64x5x26x26x80 ![] bcast_S_S64x5x26x26x80 (id (constant S_ .f32 0x00000000#32)))) (constant S_ .f32 0x00000000#32) reducesTo_S64x5x26x26x80_S_d0_1_2_3_4 h_S_
      = fun _ => (0 : EReal) := by
  funext j
  refine (Ideal.hostReduceAdd_total reducesTo_S64x5x26x26x80_S_d0_1_2_3_4 (fun b => Fin.elim0 b) _ _ j).trans ?_
  rw [Finset.sum_eq_zero (fun i _ => ?_)]
  · show Ideal.ofBits .f32 0x00000000#32 + 0 = 0
    rw [Ideal.ofBits_zero_f32, zero_add]
  · show Ideal.ofBits .f32 0x00000000#32 = 0
    exact Ideal.ofBits_zero_f32

/-- Where the mask is true everywhere, the masked sum of squared confidences is the loss before averaging. -/
theorem unmatched_sum :
    Host.reduceAdd (select (broadcastInDim S64x5x26x26 ![] bcast_S_S64x5x26x26 (constantI S_ 1 1#1)) (mulf (res_main_v27 V0) (res_main_v27 V0)) (broadcastInDim S64x5x26x26 ![] bcast_S_S64x5x26x26 (id (constant S_ .f32 0x00000000#32)))) (constant S_ .f32 0x00000000#32) reducesTo_S64x5x26x26_S_d0_1_2_3 h_S_
      = fun _ => lossSum (V0 (Proc.devRef .tc main_arg0)) := by
  funext j
  refine (Ideal.hostReduceAdd_total reducesTo_S64x5x26x26_S_d0_1_2_3 (fun b => Fin.elim0 b) _ _ j).trans ?_
  show Ideal.ofBits .f32 0x00000000#32 + _ = _
  rw [Ideal.ofBits_zero_f32, zero_add, sum_idx4]
  unfold lossSum
  refine Finset.sum_congr rfl fun b _ => Finset.sum_congr rfl fun a _ => Finset.sum_congr rfl fun g _ => Finset.sum_congr rfl fun r _ => ?_
  have e := confidence_apply V0 b a g r
  exact congrArg₂ (fun x y : EReal => x * y) e e

/-- A weight times a sum of zeros is zero. -/
theorem weighted_zero (w : BitVec 32) : mulf (constant (F := Ideal) S_ .f32 w) (fun _ => (0 : EReal)) = fun _ => (0 : EReal) :=
  funext fun _ => mul_zero _

/-- Every run of the reference ends with the loss divided by the number of images in its result, and with its arguments
as they were. -/
theorem run_loss (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v180)
        = (fun _ => Ideal.div (lossSum (m ((c.tc : Thread nD τ).loc main_arg0))) (Ideal.ofBits .f32 0x42800000#32))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine θ_run_mono (run m ρ) fun r h c => ⟨(h c).1.trans ?_, (h c).2⟩
  rw [masked_sum, masked_sum, masked_sum, masked_sum, masked_sum, masked_class_sum, unmatched_sum]
  simp only [weighted_zero]
  funext j
  show Ideal.div ((0 + 0 + 0 + 0 + 0 + Ideal.ofBits .f32 0x3F800000#32 * lossSum _ + 0 : EReal)) (Ideal.ofBits .f32 0x42800000#32) = _
  simp only [ofBits_one, one_mul, add_zero, zero_add]

end Cert.ReferenceIdeal.Loss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import proofs.«01_k».proof.Proof.Reference
public import Idealize.ShloMosaic.Adequacy
public import Idealize.ShloMosaic.Init

@[expose] public section

noncomputable section

namespace Cert.Proof

open Idealize.ShloMosaic Idealize.SL.Sem

/-- The reference runs, its arguments end unchanged, and it has no counter to leave above zero. -/
theorem reference_frame : Cert.quiescent_ReferenceIdeal := fun m ρ _ =>
  θ_run_mono (Cert.ReferenceIdeal.Loss.run_loss m ρ) fun r h =>
    ⟨fun c => (h c).2, sem_eq_zero_of_no_sems (by decide) r.2⟩

/-- From equal arguments the kernel and the reference end with equal results: the kernel's total times one sixty-fourth is
the same sum, in another order, divided by sixty-four. -/
theorem same_result : Cert.algebraic_KernelIdeal_ReferenceIdeal := fun m ρ m' ρ' _ agree =>
  ⟨_, Cert.KernelIdeal.Loss.run m ρ, θ_run_mono (Cert.ReferenceIdeal.Loss.run_loss m' ρ') fun _ h c =>
    ⟨(h c).1.trans (funext fun _ => by
      rw [(agree c).1, Cert.Loss.div_64]
      exact congrArg (· * Ideal.ofBits .f32 0x3C800000#32) (Cert.KernelIdeal.Loss.allRows_eq m c).symm), (h c).2⟩⟩

/-- Everything that is claimed of the kernel. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_result⟩

end Cert.Proof

end
